-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x142 : Shape := ⟨2, ![100000, 142]⟩
abbrev S2x400000 : Shape := ⟨2, ![2, 400000]⟩
abbrev S400000x5 : Shape := ⟨2, ![400000, 5]⟩
abbrev S100000 : Shape := ⟨1, ![100000]⟩
abbrev S142x128 : Shape := ⟨2, ![142, 128]⟩
abbrev S128 : Shape := ⟨1, ![128]⟩
abbrev S3x133x128 : Shape := ⟨3, ![3, 133, 128]⟩
abbrev S3x128x128 : Shape := ⟨3, ![3, 128, 128]⟩
abbrev S128x100 : Shape := ⟨2, ![128, 100]⟩
abbrev S100 : Shape := ⟨1, ![100]⟩
abbrev S100x1 : Shape := ⟨2, ![100, 1]⟩
abbrev S1 : Shape := ⟨1, ![1]⟩
abbrev S1x400000 : Shape := ⟨2, ![1, 400000]⟩
abbrev S400000 : Shape := ⟨1, ![400000]⟩
abbrev S1x128 : Shape := ⟨2, ![1, 128]⟩
abbrev S100000x128 : Shape := ⟨2, ![100000, 128]⟩
abbrev S2000x142 : Shape := ⟨2, ![2000, 142]⟩
abbrev S2000x128 : Shape := ⟨2, ![2000, 128]⟩
abbrev S1x128x128 : Shape := ⟨3, ![1, 128, 128]⟩
abbrev S128x128 : Shape := ⟨2, ![128, 128]⟩
abbrev S1x5x128 : Shape := ⟨3, ![1, 5, 128]⟩
abbrev S5x128 : Shape := ⟨2, ![5, 128]⟩
abbrev S_ : Shape := ⟨0, ![]⟩
abbrev S400000x1 : Shape := ⟨2, ![400000, 1]⟩
abbrev S1x1 : Shape := ⟨2, ![1, 1]⟩
abbrev S400000x128 : Shape := ⟨2, ![400000, 128]⟩
abbrev S2000x5 : Shape := ⟨2, ![2000, 5]⟩
abbrev S100000x1 : Shape := ⟨2, ![100000, 1]⟩
abbrev S100x128 : Shape := ⟨2, ![100, 128]⟩
abbrev S1x100 : Shape := ⟨2, ![1, 100]⟩
abbrev S100x100 : Shape := ⟨2, ![100, 100]⟩

abbrev nBuf : Space → Nat
  | .hbm => 137
  | .vmem => 58
  | .smem => 0
  | _ => 0

abbrev hbmTy0_0 (i : Nat) : BufTy := match i % 128 with
  | 0 => ⟨S100000x142, .f32⟩
  | 1 => ⟨S2x400000, .i32⟩
  | 2 => ⟨S400000x5, .f32⟩
  | 3 => ⟨S100000, .i32⟩
  | 4 => ⟨S142x128, .f32⟩
  | 5 => ⟨S128, .f32⟩
  | 6 => ⟨S3x133x128, .f32⟩
  | 7 => ⟨S3x128x128, .f32⟩
  | 8 => ⟨S128x100, .f32⟩
  | 9 => ⟨S100, .f32⟩
  | 10 => ⟨S100x1, .f32⟩
  | 11 => ⟨S1, .f32⟩
  | 12 => ⟨S1x400000, .i32⟩
  | 13 => ⟨S400000, .i32⟩
  | 14 => ⟨S1x400000, .i32⟩
  | 15 => ⟨S400000, .i32⟩
  | 16 => ⟨S1x128, .f32⟩
  | 17 => ⟨S100000x128, .f32⟩
  | 18 => ⟨S1x128x128, .f32⟩
  | 19 => ⟨S128x128, .f32⟩
  | 20 => ⟨S1x5x128, .f32⟩
  | 21 => ⟨S5x128, .f32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S1, .i32⟩
  | 31 => ⟨S_, .i32⟩
  | 32 => ⟨S400000x1, .i32⟩
  | 33 => ⟨S400000x1, .i1⟩
  | 34 => ⟨S1x1, .i32⟩
  | 35 => ⟨S400000x1, .i32⟩
  | 36 => ⟨S400000x1, .i1⟩
  | 37 => ⟨S400000x1, .i1⟩
  | 38 => ⟨S_, .i1⟩
  | 39 => ⟨S400000, .i1⟩
  | 40 => ⟨S400000x128, .f32⟩
  | 41 => ⟨S400000x128, .i1⟩
  | 42 => ⟨S_, .f32⟩
  | 43 => ⟨S400000x128, .f32⟩
  | 44 => ⟨S400000x128, .f32⟩
  | 45 => ⟨S400000x128, .f32⟩
  | 46 => ⟨S_, .f32⟩
  | 47 => ⟨S100000x128, .f32⟩
  | 48 => ⟨S400000x1, .i32⟩
  | 49 => ⟨S100000x128, .f32⟩
  | 50 => ⟨S1x128x128, .f32⟩
  | 51 => ⟨S128x128, .f32⟩
  | 52 => ⟨S100000x128, .f32⟩
  | 53 => ⟨S1x128x128, .f32⟩
  | 54 => ⟨S128x128, .f32⟩
  | 55 => ⟨S1x5x128, .f32⟩
  | 56 => ⟨S5x128, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S1, .i32⟩
  | 66 => ⟨S_, .i32⟩
  | 67 => ⟨S400000x1, .i32⟩
  | 68 => ⟨S400000x1, .i1⟩
  | 69 => ⟨S1x1, .i32⟩
  | 70 => ⟨S400000x1, .i32⟩
  | 71 => ⟨S400000x1, .i1⟩
  | 72 => ⟨S400000x1, .i1⟩
  | 73 => ⟨S_, .i1⟩
  | 74 => ⟨S400000, .i1⟩
  | 75 => ⟨S400000x128, .f32⟩
  | 76 => ⟨S400000x128, .i1⟩
  | 77 => ⟨S_, .f32⟩
  | 78 => ⟨S400000x128, .f32⟩
  | 79 => ⟨S400000x128, .f32⟩
  | 80 => ⟨S400000x128, .f32⟩
  | 81 => ⟨S_, .f32⟩
  | 82 => ⟨S100000x128, .f32⟩
  | 83 => ⟨S400000x1, .i32⟩
  | 84 => ⟨S100000x128, .f32⟩
  | 85 => ⟨S1x128x128, .f32⟩
  | 86 => ⟨S128x128, .f32⟩
  | 87 => ⟨S100000x128, .f32⟩
  | 88 => ⟨S1x128x128, .f32⟩
  | 89 => ⟨S128x128, .f32⟩
  | 90 => ⟨S1x5x128, .f32⟩
  | 91 => ⟨S5x128, .f32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S1, .i32⟩
  | 101 => ⟨S_, .i32⟩
  | 102 => ⟨S400000x1, .i32⟩
  | 103 => ⟨S400000x1, .i1⟩
  | 104 => ⟨S1x1, .i32⟩
  | 105 => ⟨S400000x1, .i32⟩
  | 106 => ⟨S400000x1, .i1⟩
  | 107 => ⟨S400000x1, .i1⟩
  | 108 => ⟨S_, .i1⟩
  | 109 => ⟨S400000, .i1⟩
  | 110 => ⟨S400000x128, .f32⟩
  | 111 => ⟨S400000x128, .i1⟩
  | 112 => ⟨S_, .f32⟩
  | 113 => ⟨S400000x128, .f32⟩
  | 114 => ⟨S400000x128, .f32⟩
  | 115 => ⟨S400000x128, .f32⟩
  | 116 => ⟨S_, .f32⟩
  | 117 => ⟨S100000x128, .f32⟩
  | 118 => ⟨S400000x1, .i32⟩
  | 119 => ⟨S100000x128, .f32⟩
  | 120 => ⟨S1x128x128, .f32⟩
  | 121 => ⟨S128x128, .f32⟩
  | 122 => ⟨S100000x128, .f32⟩
  | 123 => ⟨S_, .f32⟩
  | 124 => ⟨S100000x1, .f32⟩
  | 125 => ⟨S_, .f32⟩
  | 126 => ⟨S100x1, .f32⟩
  | 127 => ⟨S100000x1, .i32⟩
  | _ => ⟨S100000x142, .f32⟩

abbrev hbmTy0_1 (i : Nat) : BufTy := match i % 128 with
  | 0 => ⟨S100x1, .f32⟩
  | 1 => ⟨S_, .f32⟩
  | 2 => ⟨S100x128, .f32⟩
  | 3 => ⟨S100000x1, .i32⟩
  | 4 => ⟨S100x128, .f32⟩
  | 5 => ⟨S1x100, .f32⟩
  | 6 => ⟨S1x1, .f32⟩
  | 7 => ⟨S100x1, .f32⟩
  | 8 => ⟨S100, .f32⟩
  | _ => ⟨S100000x142, .f32⟩

abbrev hbmTy (i : Nat) : BufTy := match i / 128 with
  | 0 => hbmTy0_0 i
  | 1 => hbmTy0_1 i
  | _ => ⟨S100000x142, .f32⟩

abbrev bufTy : (tb : Table) → Fin (tcTables nBuf tb) → BufTy
  | .hbm, ⟨i, _⟩ => hbmTy i
  | .local _ .vmem, ⟨0, _⟩ => ⟨S2000x142, .f32⟩
  | .local _ .vmem, ⟨1, _⟩ => ⟨S2000x142, .f32⟩
  | .local _ .vmem, ⟨2, _⟩ => ⟨S142x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x5, .f32⟩
  | .local _ .vmem, ⟨9, _⟩ => ⟨S2000x5, .f32⟩
  | .local _ .vmem, ⟨10, _⟩ => ⟨S128x128, .f32⟩
  | .local _ .vmem, ⟨11, _⟩ => ⟨S5x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x5, .f32⟩
  | .local _ .vmem, ⟨24, _⟩ => ⟨S2000x5, .f32⟩
  | .local _ .vmem, ⟨25, _⟩ => ⟨S128x128, .f32⟩
  | .local _ .vmem, ⟨26, _⟩ => ⟨S5x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S128x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x5, .f32⟩
  | .local _ .vmem, ⟨39, _⟩ => ⟨S2000x5, .f32⟩
  | .local _ .vmem, ⟨40, _⟩ => ⟨S128x128, .f32⟩
  | .local _ .vmem, ⟨41, _⟩ => ⟨S5x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .f32⟩
  | .local _ .vmem, ⟨49, _⟩ => ⟨S2000x128, .f32⟩
  | .local _ .vmem, ⟨50, _⟩ => ⟨S2000x128, .f32⟩
  | .local _ .vmem, ⟨51, _⟩ => ⟨S100x128, .f32⟩
  | .local _ .vmem, ⟨52, _⟩ => ⟨S100x1, .f32⟩
  | .local _ .vmem, ⟨53, _⟩ => ⟨S128x100, .f32⟩
  | .local _ .vmem, ⟨54, _⟩ => ⟨S1x100, .f32⟩
  | .local _ .vmem, ⟨55, _⟩ => ⟨S100x1, .f32⟩
  | .local _ .vmem, ⟨56, _⟩ => ⟨S1x1, .f32⟩
  | .local _ .vmem, ⟨57, _⟩ => ⟨S100x1, .f32⟩
  | _, _ => ⟨S100000x142, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v10 : Ref sig .tc := ⟨.hbm, 44, rfl⟩
abbrev main_v11 : Ref sig .tc := ⟨.hbm, 45, rfl⟩
abbrev main_cst : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v22 : Ref sig .tc := ⟨.hbm, 79, rfl⟩
abbrev main_v23 : Ref sig .tc := ⟨.hbm, 80, rfl⟩
abbrev main_cst_0 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v34 : Ref sig .tc := ⟨.hbm, 114, rfl⟩
abbrev main_v35 : Ref sig .tc := ⟨.hbm, 115, rfl⟩
abbrev main_cst_1 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_cst_2 : Ref sig .tc := ⟨.hbm, 123, rfl⟩
abbrev main_v42 : Ref sig .tc := ⟨.hbm, 124, rfl⟩
abbrev main_cst_3 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_cst_4 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg3_1 : Ref sig .tc := ⟨.vmem, 50, rfl⟩
abbrev cc7_stg0_0 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg4_0 : Ref sig .tc := ⟨.vmem, 55, rfl⟩
abbrev cc7_stg5_0 : Ref sig .tc := ⟨.vmem, 56, rfl⟩
abbrev cc7_stg6_0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem4_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem3_1 : DmaSem sig := 50
abbrev cc7_sem0_0 : DmaSem sig := 51
abbrev cc7_sem1_0 : DmaSem sig := 52
abbrev cc7_sem2_0 : DmaSem sig := 53
abbrev cc7_sem3_0 : DmaSem sig := 54
abbrev cc7_sem4_0 : DmaSem sig := 55
abbrev cc7_sem5_0 : DmaSem sig := 56
abbrev cc7_sem6_0 : DmaSem sig := 57

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x142 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S142x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x5 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S5x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x5 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S5x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := .none

abbrev stage7_0 : Fin 1 → Memref sig .tc .vmem S100x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S100x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S128x100 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S1x100 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S100x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S1x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S100x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
-- ==== ReferenceIdeal.lean ====
abbrev S100000x142 : Shape := ⟨2, ![100000, 142]⟩
abbrev S2x400000 : Shape := ⟨2, ![2, 400000]⟩
abbrev S400000x5 : Shape := ⟨2, ![400000, 5]⟩
abbrev S100000 : Shape := ⟨1, ![100000]⟩
abbrev S142x128 : Shape := ⟨2, ![142, 128]⟩
abbrev S128 : Shape := ⟨1, ![128]⟩
abbrev S3x133x128 : Shape := ⟨3, ![3, 133, 128]⟩
abbrev S3x128x128 : Shape := ⟨3, ![3, 128, 128]⟩
abbrev S128x100 : Shape := ⟨2, ![128, 100]⟩
abbrev S100 : Shape := ⟨1, ![100]⟩
abbrev S100x1 : Shape := ⟨2, ![100, 1]⟩
abbrev S1 : Shape := ⟨1, ![1]⟩
abbrev S1x400000 : Shape := ⟨2, ![1, 400000]⟩
abbrev S400000 : Shape := ⟨1, ![400000]⟩
abbrev S100000x128 : Shape := ⟨2, ![100000, 128]⟩
abbrev S1x128 : Shape := ⟨2, ![1, 128]⟩
abbrev S_ : Shape := ⟨0, ![]⟩
abbrev S400000x1 : Shape := ⟨2, ![400000, 1]⟩
abbrev S1x1 : Shape := ⟨2, ![1, 1]⟩
abbrev S400000x128 : Shape := ⟨2, ![400000, 128]⟩
abbrev S400000x133 : Shape := ⟨2, ![400000, 133]⟩
abbrev S1x133x128 : Shape := ⟨3, ![1, 133, 128]⟩
abbrev S133x128 : Shape := ⟨2, ![133, 128]⟩
abbrev S1x128x128 : Shape := ⟨3, ![1, 128, 128]⟩
abbrev S128x128 : Shape := ⟨2, ![128, 128]⟩
abbrev S100000x1 : Shape := ⟨2, ![100000, 1]⟩
abbrev S100x128 : Shape := ⟨2, ![100, 128]⟩
abbrev S100x100 : Shape := ⟨2, ![100, 100]⟩
abbrev S1x100 : Shape := ⟨2, ![1, 100]⟩

abbrev nBuf : Space → Nat
  | .hbm => 173
  | .vmem => 0
  | .smem => 0
  | _ => 0

abbrev hbmTy0_0 (i : Nat) : BufTy := match i % 128 with
  | 0 => ⟨S100000x142, .f32⟩
  | 1 => ⟨S2x400000, .i32⟩
  | 2 => ⟨S400000x5, .f32⟩
  | 3 => ⟨S100000, .i32⟩
  | 4 => ⟨S142x128, .f32⟩
  | 5 => ⟨S128, .f32⟩
  | 6 => ⟨S3x133x128, .f32⟩
  | 7 => ⟨S3x128x128, .f32⟩
  | 8 => ⟨S128x100, .f32⟩
  | 9 => ⟨S100, .f32⟩
  | 10 => ⟨S100x1, .f32⟩
  | 11 => ⟨S1, .f32⟩
  | 12 => ⟨S1x400000, .i32⟩
  | 13 => ⟨S400000, .i32⟩
  | 14 => ⟨S1x400000, .i32⟩
  | 15 => ⟨S400000, .i32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S1, .i32⟩
  | 32 => ⟨S_, .i32⟩
  | 33 => ⟨S400000x1, .i32⟩
  | 34 => ⟨S400000x1, .i1⟩
  | 35 => ⟨S1x1, .i32⟩
  | 36 => ⟨S400000x1, .i32⟩
  | 37 => ⟨S400000x1, .i1⟩
  | 38 => ⟨S400000x1, .i1⟩
  | 39 => ⟨S_, .i1⟩
  | 40 => ⟨S400000, .i1⟩
  | 41 => ⟨S400000x128, .f32⟩
  | 42 => ⟨S400000x128, .i1⟩
  | 43 => ⟨S_, .f32⟩
  | 44 => ⟨S400000x128, .f32⟩
  | 45 => ⟨S400000x128, .f32⟩
  | 46 => ⟨S400000x133, .f32⟩
  | 47 => ⟨S1x133x128, .f32⟩
  | 48 => ⟨S133x128, .f32⟩
  | 49 => ⟨S400000x128, .f32⟩
  | 50 => ⟨S_, .f32⟩
  | 51 => ⟨S400000x128, .f32⟩
  | 52 => ⟨S400000x128, .f32⟩
  | 53 => ⟨S_, .f32⟩
  | 54 => ⟨S100000x128, .f32⟩
  | 55 => ⟨S400000x1, .i32⟩
  | 56 => ⟨S100000x128, .f32⟩
  | 57 => ⟨S1x128x128, .f32⟩
  | 58 => ⟨S128x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S1, .i32⟩
  | 73 => ⟨S_, .i32⟩
  | 74 => ⟨S400000x1, .i32⟩
  | 75 => ⟨S400000x1, .i1⟩
  | 76 => ⟨S1x1, .i32⟩
  | 77 => ⟨S400000x1, .i32⟩
  | 78 => ⟨S400000x1, .i1⟩
  | 79 => ⟨S400000x1, .i1⟩
  | 80 => ⟨S_, .i1⟩
  | 81 => ⟨S400000, .i1⟩
  | 82 => ⟨S400000x128, .f32⟩
  | 83 => ⟨S400000x128, .i1⟩
  | 84 => ⟨S_, .f32⟩
  | 85 => ⟨S400000x128, .f32⟩
  | 86 => ⟨S400000x128, .f32⟩
  | 87 => ⟨S400000x133, .f32⟩
  | 88 => ⟨S1x133x128, .f32⟩
  | 89 => ⟨S133x128, .f32⟩
  | 90 => ⟨S400000x128, .f32⟩
  | 91 => ⟨S_, .f32⟩
  | 92 => ⟨S400000x128, .f32⟩
  | 93 => ⟨S400000x128, .f32⟩
  | 94 => ⟨S_, .f32⟩
  | 95 => ⟨S100000x128, .f32⟩
  | 96 => ⟨S400000x1, .i32⟩
  | 97 => ⟨S100000x128, .f32⟩
  | 98 => ⟨S1x128x128, .f32⟩
  | 99 => ⟨S128x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S1, .i32⟩
  | 114 => ⟨S_, .i32⟩
  | 115 => ⟨S400000x1, .i32⟩
  | 116 => ⟨S400000x1, .i1⟩
  | 117 => ⟨S1x1, .i32⟩
  | 118 => ⟨S400000x1, .i32⟩
  | 119 => ⟨S400000x1, .i1⟩
  | 120 => ⟨S400000x1, .i1⟩
  | 121 => ⟨S_, .i1⟩
  | 122 => ⟨S400000, .i1⟩
  | 123 => ⟨S400000x128, .f32⟩
  | 124 => ⟨S400000x128, .i1⟩
  | 125 => ⟨S_, .f32⟩
  | 126 => ⟨S400000x128, .f32⟩
  | 127 => ⟨S400000x128, .f32⟩
  | _ => ⟨S100000x142, .f32⟩

abbrev hbmTy0_1 (i : Nat) : BufTy := match i % 128 with
  | 0 => ⟨S400000x133, .f32⟩
  | 1 => ⟨S1x133x128, .f32⟩
  | 2 => ⟨S133x128, .f32⟩
  | 3 => ⟨S400000x128, .f32⟩
  | 4 => ⟨S_, .f32⟩
  | 5 => ⟨S400000x128, .f32⟩
  | 6 => ⟨S400000x128, .f32⟩
  | 7 => ⟨S_, .f32⟩
  | 8 => ⟨S100000x128, .f32⟩
  | 9 => ⟨S400000x1, .i32⟩
  | 10 => ⟨S100000x128, .f32⟩
  | 11 => ⟨S1x128x128, .f32⟩
  | 12 => ⟨S128x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S_, .f32⟩
  | 19 => ⟨S100000x1, .f32⟩
  | 20 => ⟨S_, .f32⟩
  | 21 => ⟨S100x1, .f32⟩
  | 22 => ⟨S100000x1, .i32⟩
  | 23 => ⟨S100x1, .f32⟩
  | 24 => ⟨S_, .f32⟩
  | 25 => ⟨S100x128, .f32⟩
  | 26 => ⟨S100000x1, .i32⟩
  | 27 => ⟨S100x128, .f32⟩
  | 28 => ⟨S_, .f32⟩
  | 29 => ⟨S100x1, .f32⟩
  | 30 => ⟨S100x1, .f32⟩
  | 31 => ⟨S100x128, .f32⟩
  | 32 => ⟨S100x128, .f32⟩
  | 33 => ⟨S100x100, .f32⟩
  | 34 => ⟨S1x100, .f32⟩
  | 35 => ⟨S100x100, .f32⟩
  | 36 => ⟨S100x100, .f32⟩
  | 37 => ⟨S_, .f32⟩
  | 38 => ⟨S100x100, .f32⟩
  | 39 => ⟨S100x100, .f32⟩
  | 40 => ⟨S100x1, .f32⟩
  | 41 => ⟨S1x1, .f32⟩
  | 42 => ⟨S100x1, .f32⟩
  | 43 => ⟨S100x1, .f32⟩
  | 44 => ⟨S100, .f32⟩
  | _ => ⟨S100000x142, .f32⟩

abbrev hbmTy (i : Nat) : BufTy := match i / 128 with
  | 0 => hbmTy0_0 i
  | 1 => hbmTy0_1 i
  | _ => ⟨S100000x142, .f32⟩

abbrev bufTy : (tb : Table) → Fin (tcTables nBuf tb) → BufTy
  | .hbm, ⟨i, _⟩ => hbmTy i
  | _, _ => ⟨S100000x142, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_call2_cst : Ref sig .tc := ⟨.hbm, 50, rfl⟩
abbrev main_call2_v0 : Ref sig .tc := ⟨.hbm, 51, rfl⟩
abbrev main_v14 : Ref sig .tc := ⟨.hbm, 52, rfl⟩
abbrev main_cst : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_call3_cst : Ref sig .tc := ⟨.hbm, 61, rfl⟩
abbrev main_call3_v0 : Ref sig .tc := ⟨.hbm, 62, rfl⟩
abbrev main_v22 : Ref sig .tc := ⟨.hbm, 63, rfl⟩
abbrev main_call4_c : Ref sig .tc := ⟨.hbm, 64, rfl⟩
abbrev main_call4_v0 : Ref sig .tc := ⟨.hbm, 65, rfl⟩
abbrev main_call4_v1 : Ref sig .tc := ⟨.hbm, 66, rfl⟩
abbrev main_call4_c_0 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_v5 : Ref sig .tc := ⟨.hbm, 71, rfl⟩
abbrev main_call4_c_1 : Ref sig .tc := ⟨.hbm, 72, rfl⟩
abbrev main_call4_c_2 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_v9 : Ref sig .tc := ⟨.hbm, 77, rfl⟩
abbrev main_call4_v10 : Ref sig .tc := ⟨.hbm, 78, rfl⟩
abbrev main_call4_v11 : Ref sig .tc := ⟨.hbm, 79, rfl⟩
abbrev main_call4_c_3 : Ref sig .tc := ⟨.hbm, 80, rfl⟩
abbrev main_call4_v12 : Ref sig .tc := ⟨.hbm, 81, rfl⟩
abbrev main_call4_v13 : Ref sig .tc := ⟨.hbm, 82, rfl⟩
abbrev main_call4_v14 : Ref sig .tc := ⟨.hbm, 83, rfl⟩
abbrev main_call4_cst : Ref sig .tc := ⟨.hbm, 84, rfl⟩
abbrev main_call4_v15 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_call5_cst : Ref sig .tc := ⟨.hbm, 91, rfl⟩
abbrev main_call5_v0 : Ref sig .tc := ⟨.hbm, 92, rfl⟩
abbrev main_v28 : Ref sig .tc := ⟨.hbm, 93, rfl⟩
abbrev main_cst_0 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_call6_cst : Ref sig .tc := ⟨.hbm, 102, rfl⟩
abbrev main_call6_v0 : Ref sig .tc := ⟨.hbm, 103, rfl⟩
abbrev main_v36 : Ref sig .tc := ⟨.hbm, 104, rfl⟩
abbrev main_call7_c : Ref sig .tc := ⟨.hbm, 105, rfl⟩
abbrev main_call7_v0 : Ref sig .tc := ⟨.hbm, 106, rfl⟩
abbrev main_call7_v1 : Ref sig .tc := ⟨.hbm, 107, rfl⟩
abbrev main_call7_c_0 : Ref sig .tc := ⟨.hbm, 108, rfl⟩
abbrev main_call7_v2 : Ref sig .tc := ⟨.hbm, 109, rfl⟩
abbrev main_call7_v3 : Ref sig .tc := ⟨.hbm, 110, rfl⟩
abbrev main_call7_v4 : Ref sig .tc := ⟨.hbm, 111, rfl⟩
abbrev main_call7_v5 : Ref sig .tc := ⟨.hbm, 112, rfl⟩
abbrev main_call7_c_1 : Ref sig .tc := ⟨.hbm, 113, rfl⟩
abbrev main_call7_c_2 : Ref sig .tc := ⟨.hbm, 114, rfl⟩
abbrev main_call7_v6 : Ref sig .tc := ⟨.hbm, 115, rfl⟩
abbrev main_call7_v7 : Ref sig .tc := ⟨.hbm, 116, rfl⟩
abbrev main_call7_v8 : Ref sig .tc := ⟨.hbm, 117, rfl⟩
abbrev main_call7_v9 : Ref sig .tc := ⟨.hbm, 118, rfl⟩
abbrev main_call7_v10 : Ref sig .tc := ⟨.hbm, 119, rfl⟩
abbrev main_call7_v11 : Ref sig .tc := ⟨.hbm, 120, rfl⟩
abbrev main_call7_c_3 : Ref sig .tc := ⟨.hbm, 121, rfl⟩
abbrev main_call7_v12 : Ref sig .tc := ⟨.hbm, 122, rfl⟩
abbrev main_call7_v13 : Ref sig .tc := ⟨.hbm, 123, rfl⟩
abbrev main_call7_v14 : Ref sig .tc := ⟨.hbm, 124, rfl⟩
abbrev main_call7_cst : Ref sig .tc := ⟨.hbm, 125, rfl⟩
abbrev main_call7_v15 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_call8_cst : Ref sig .tc := ⟨.hbm, 132, rfl⟩
abbrev main_call8_v0 : Ref sig .tc := ⟨.hbm, 133, rfl⟩
abbrev main_v42 : Ref sig .tc := ⟨.hbm, 134, rfl⟩
abbrev main_cst_1 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_call9_cst : Ref sig .tc := ⟨.hbm, 143, rfl⟩
abbrev main_call9_v0 : Ref sig .tc := ⟨.hbm, 144, rfl⟩
abbrev main_v50 : Ref sig .tc := ⟨.hbm, 145, rfl⟩
abbrev main_cst_2 : Ref sig .tc := ⟨.hbm, 146, rfl⟩
abbrev main_v51 : Ref sig .tc := ⟨.hbm, 147, rfl⟩
abbrev main_cst_3 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_cst_4 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_cst_5 : Ref sig .tc := ⟨.hbm, 156, rfl⟩
abbrev main_v58 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_call10_cst : Ref sig .tc := ⟨.hbm, 165, rfl⟩
abbrev main_call10_v0 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩

abbrev nD : Nat := 1
abbrev τ : Topo := Topo.v7x

variable {F : FTy → Type} [FloatOps F]
-- ==== Proof.Spec.lean ====
module

public import proofs.«01_k».proof.Proof.Gen.KernelIdeal
public import Idealize.ShloMosaic.Lib.Pointwise

/-!
  The pieces of the network as formulas over whole arrays. Each one is what one `pallas_call` of the kernel
  writes to its result array, read element by element, with no blocks in it.
-/

@[expose] public section

set_option maxRecDepth 16384

noncomputable section

open Idealize.ShloMosaic Idealize.ShloMosaic.TcCoe

namespace Cert.Net

open Cert.KernelIdeal

/-- The input projection: `max(x·w + b, 0)`, with the bias row `b` added to every row. -/
def proj (x : FVec Ideal S100000x142 .f32) (w : FVec Ideal S142x128 .f32) (b : FVec Ideal S1x128 .f32) :
    FVec Ideal S100000x128 .f32 :=
  fun i => max ((∑ k : Fin 142, x (ix2 (i 0) k) * w (ix2 k (i 1))) + b (ix2 0 (i 1))) 0

/-- The messages along the edges: `max(g·wh + f·wb, 0)`, with `g` the source atom's state of each edge, `f` the
    edge's own features, and the weights in their two halves. -/
def msg (g : FVec Ideal S400000x128 .f32) (f : FVec Ideal S400000x5 .f32) (wh : FVec Ideal S128x128 .f32)
    (wb : FVec Ideal S5x128 .f32) : FVec Ideal S400000x128 .f32 :=
  fun i => max ((∑ k : Fin 128, g (ix2 (i 0) k) * wh (ix2 k (i 1))) + ∑ k : Fin 5, f (ix2 (i 0) k) * wb (ix2 k (i 1))) 0

/-- The update of the atoms: `max(h·w + a, 0)`, with `a` the sum of the messages that arrive at each atom. -/
def upd (a h : FVec Ideal S100000x128 .f32) (w : FVec Ideal S128x128 .f32) : FVec Ideal S100000x128 .f32 :=
  fun i => max ((∑ k : Fin 128, h (ix2 (i 0) k) * w (ix2 k (i 1))) + a i) 0

/-- The head: each graph's mean state (the sum over its atoms by the larger of their number and 1), one layer of 100
    features with its bias `b` and `max(·, 0)`, and the output weights with their bias `bo`. -/
def head (s : FVec Ideal S100x128 .f32) (n : FVec Ideal S100x1 .f32) (w : FVec Ideal S128x100 .f32)
    (b : FVec Ideal S1x100 .f32) (wo : FVec Ideal S100x1 .f32) (bo : FVec Ideal S1x1 .f32) : FVec Ideal S100x1 .f32 :=
  fun i => (∑ j : Fin 100, max ((∑ k : Fin 128, Ideal.div (s (ix2 (i 0) k)) (max (n (ix2 (i 0) 0)) 1) * w (ix2 k j))
    + b (ix2 0 j)) 0 * wo (ix2 j (i 1))) + bo (ix2 0 0)

end Cert.Net

end
-- ==== Proof.Region0.lean ====
module

public import proofs.«01_k».proof.Proof.Spec
public import proofs.«01_k».proof.Proof.Gen.KernelIdeal.Frame
public import Idealize.ShloMosaic.Lib.Pipeline.ValueKit

/-!
  The first `pallas_call`: 50 blocks of 2000 rows, each the projection of its rows.
-/

@[expose] public section

set_option maxRecDepth 16384

noncomputable section

open Idealize.ShloMosaic Idealize.ShloMosaic.TcCoe Idealize.SL.Sem
open Idealize.ShloMosaic.Pipeline (Dat)

namespace Cert.Net

open Cert.KernelIdeal Cert.KernelIdeal.Gen

variable (V : (c : Dev nD) → (b : Ref sig .tc) → Buf (Elt Ideal) ((c : Thread nD τ).loc b))

/-- Where the blocks of the first call lie. -/
theorem index0 : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- One block of the first call holds the projection at the rows where the block lies. -/
theorem point0 (c : Dev nD) (t : Fin cfg0.N) (y) :
    k0_pay1 (iblk0 V c 0 t) (iblk0 V c 1 t) (iblk0 V c 2 t) y
      = proj (V c main_arg0) (V c main_arg4) (V c main_v4) (((cfg0.win 3).blk t).view.emb y) := by
  pointwise [k0_pay1, proj]
  blk_point [iblk0, index0 t]

/-- After the first call its result array holds the projection. -/
theorem region0 (c : Dev nD) :
    (dat0 V c).arrAt 3 cfg0.N = proj (V c main_arg0) (V c main_arg4) (V c main_v4) := by
  refine (dat0 V c).arrAt_eq_of_covers 3 _ (by decide +kernel) fun t _ y => ?_
  blk_simp
  rw [after0_3]; frame_out
  exact point0 V c t y

end Cert.Net

end
-- ==== Proof.Block.lean ====
module

public import proofs.«01_k».proof.Proof.Spec
public import proofs.«01_k».proof.Proof.Gen.KernelIdeal.Skeleton
public import Idealize.ShloMosaic.Lib.Pointwise

/-!
  What one block of each kind of `pallas_call` stores, read at one element, over the blocks it loads.
-/

@[expose] public section

set_option maxRecDepth 16384

noncomputable section

open Idealize.ShloMosaic Idealize.ShloMosaic.TcCoe Idealize.SL.Sem
open Idealize.ShloMosaic.Pipeline (Dat)

namespace Cert.Net

open Cert.KernelIdeal Cert.KernelIdeal.Gen

/-- One element of a block of messages. -/
theorem msg_block (g : Vec Ideal S2000x128 .f32) (wh : Vec Ideal S128x128 .f32) (f : Vec Ideal S2000x5 .f32)
    (wb : Vec Ideal S5x128 .f32) (y : S2000x128.Idx) :
    k1_pay1 g wh f wb y = max ((∑ k : Fin 128, (g : FVec Ideal S2000x128 .f32) (ix2 (y 0) k) * (wh : FVec Ideal S128x128 .f32) (ix2 k (y 1)))
      + ∑ k : Fin 5, (f : FVec Ideal S2000x5 .f32) (ix2 (y 0) k) * (wb : FVec Ideal S5x128 .f32) (ix2 k (y 1))) 0 := by
  pointwise [k1_pay1]

/-- The second and third layers' message kernels store what the first layer's does. -/
theorem msg_same : k3_pay1 (F := Ideal) = k1_pay1 ∧ k5_pay1 (F := Ideal) = k1_pay1 := ⟨rfl, rfl⟩

/-- One element of a block of updated atoms. -/
theorem upd_block (h : Vec Ideal S2000x128 .f32) (w : Vec Ideal S128x128 .f32) (a : Vec Ideal S2000x128 .f32)
    (y : S2000x128.Idx) :
    k2_pay1 h w a y = max ((∑ k : Fin 128, (h : FVec Ideal S2000x128 .f32) (ix2 (y 0) k) * (w : FVec Ideal S128x128 .f32) (ix2 k (y 1)))
      + (a : FVec Ideal S2000x128 .f32) y) 0 := by
  pointwise [k2_pay1]

/-- The second and third layers' update kernels store what the first layer's does. -/
theorem upd_same : k4_pay1 (F := Ideal) = k2_pay1 ∧ k6_pay1 (F := Ideal) = k2_pay1 := ⟨rfl, rfl⟩

end Cert.Net

end
-- ==== Proof.Messages.lean ====
module

public import proofs.«01_k».proof.Proof.Block
public import proofs.«01_k».proof.Proof.Gen.KernelIdeal.Frame
public import Idealize.ShloMosaic.Lib.Pipeline.ValueKit

/-!
  The three message calls: 200 blocks of 2000 edges, each the messages of its edges.
-/

@[expose] public section

set_option maxRecDepth 16384

noncomputable section

open Idealize.ShloMosaic Idealize.ShloMosaic.TcCoe Idealize.SL.Sem
open Idealize.ShloMosaic.Pipeline (Dat)

namespace Cert.Net

open Cert.KernelIdeal Cert.KernelIdeal.Gen

variable (V : (c : Dev nD) → (b : Ref sig .tc) → Buf (Elt Ideal) ((c : Thread nD τ).loc b))

/-- Where the blocks of the first layer's message call lie. -/
theorem index1 : ∀ t : Fin cfg1.N, win1_0.index t = ![t.val, 0] ∧ win1_1.index t = ![t.val, 0]
    ∧ win1_2.index t = ![0, 0] ∧ win1_3.index t = ![0, 0] ∧ win1_4.index t = ![t.val, 0] :=
  (by decide +kernel : ∀ t : Fin grid1.N, _)

/-- After the first layer's message call its result array holds the messages of every edge. -/
theorem region1 (c : Dev nD) :
    (dat1 V c).arrAt 4 cfg1.N = msg (V c main_v10) (V c main_arg2) (V c main_v7) (V c main_v9) := by
  refine (dat1 V c).arrAt_eq_of_covers 4 _ (by decide +kernel) fun t _ y => ?_
  blk_simp
  rw [after1_4]; frame_out
  refine (msg_block _ _ _ _ y).trans ?_
  unfold msg
  blk_point [iblk1, index1 t]

/-- Where the blocks of the second layer's message call lie. -/
theorem index3 : ∀ t : Fin cfg3.N, win3_0.index t = ![t.val, 0] ∧ win3_1.index t = ![t.val, 0]
    ∧ win3_2.index t = ![0, 0] ∧ win3_3.index t = ![0, 0] ∧ win3_4.index t = ![t.val, 0] :=
  (by decide +kernel : ∀ t : Fin grid3.N, _)

/-- After the second layer's message call its result array holds the messages of every edge. -/
theorem region3 (c : Dev nD) :
    (dat3 V c).arrAt 4 cfg3.N = msg (V c main_v22) (V c main_arg2) (V c main_v19) (V c main_v21) := by
  refine (dat3 V c).arrAt_eq_of_covers 4 _ (by decide +kernel) fun t _ y => ?_
  blk_simp
  rw [after3_4]; frame_out
  rw [msg_same.1]
  refine (msg_block _ _ _ _ y).trans ?_
  unfold msg
  blk_point [iblk3, index3 t]

/-- Where the blocks of the third layer's message call lie. -/
theorem index5 : ∀ t : Fin cfg5.N, win5_0.index t = ![t.val, 0] ∧ win5_1.index t = ![t.val, 0]
    ∧ win5_2.index t = ![0, 0] ∧ win5_3.index t = ![0, 0] ∧ win5_4.index t = ![t.val, 0] :=
  (by decide +kernel : ∀ t : Fin grid5.N, _)

/-- After the third layer's message call its result array holds the messages of every edge. -/
theorem region5 (c : Dev nD) :
    (dat5 V c).arrAt 4 cfg5.N = msg (V c main_v34) (V c main_arg2) (V c main_v31) (V c main_v33) := by
  refine (dat5 V c).arrAt_eq_of_covers 4 _ (by decide +kernel) fun t _ y => ?_
  blk_simp
  rw [after5_4]; frame_out
  rw [msg_same.2]
  refine (msg_block _ _ _ _ y).trans ?_
  unfold msg
  blk_point [iblk5, index5 t]

end Cert.Net

end
-- ==== Proof.Updates.lean ====
module

public import proofs.«01_k».proof.Proof.Block
public import proofs.«01_k».proof.Proof.Gen.KernelIdeal.Frame
public import Idealize.ShloMosaic.Lib.Pipeline.ValueKit

/-!
  The three update calls: 50 blocks of 2000 atoms, each the updated states of its atoms.
-/

@[expose] public section

set_option maxRecDepth 16384

noncomputable section

open Idealize.ShloMosaic Idealize.ShloMosaic.TcCoe Idealize.SL.Sem
open Idealize.ShloMosaic.Pipeline (Dat)

namespace Cert.Net

open Cert.KernelIdeal Cert.KernelIdeal.Gen

variable (V : (c : Dev nD) → (b : Ref sig .tc) → Buf (Elt Ideal) ((c : Thread nD τ).loc b))

/-- Where the blocks of the first layer's update call lie. -/
theorem index2 : ∀ t : Fin cfg2.N, win2_0.index t = ![t.val, 0] ∧ win2_1.index t = ![t.val, 0]
    ∧ win2_2.index t = ![0, 0] ∧ win2_3.index t = ![t.val, 0] :=
  (by decide +kernel : ∀ t : Fin grid2.N, _)

/-- After the first layer's update call its result array holds the updated atoms. -/
theorem region2 (c : Dev nD) :
    (dat2 V c).arrAt 3 cfg2.N = upd (V c main_v14) (V c main_v5) (V c main_v16) := by
  refine (dat2 V c).arrAt_eq_of_covers 3 _ (by decide +kernel) fun t _ y => ?_
  blk_simp
  rw [after2_3]; frame_out
  refine (upd_block _ _ _ y).trans ?_
  unfold upd
  blk_point [iblk2, index2 t]

/-- Where the blocks of the second layer's update call lie. -/
theorem index4 : ∀ t : Fin cfg4.N, win4_0.index t = ![t.val, 0] ∧ win4_1.index t = ![t.val, 0]
    ∧ win4_2.index t = ![0, 0] ∧ win4_3.index t = ![t.val, 0] :=
  (by decide +kernel : ∀ t : Fin grid4.N, _)

/-- After the second layer's update call its result array holds the updated atoms. -/
theorem region4 (c : Dev nD) :
    (dat4 V c).arrAt 3 cfg4.N = upd (V c main_v26) (V c main_v17) (V c main_v28) := by
  refine (dat4 V c).arrAt_eq_of_covers 3 _ (by decide +kernel) fun t _ y => ?_
  blk_simp
  rw [after4_3]; frame_out
  rw [upd_same.1]
  refine (upd_block _ _ _ y).trans ?_
  unfold upd
  blk_point [iblk4, index4 t]

/-- Where the blocks of the third layer's update call lie. -/
theorem index6 : ∀ t : Fin cfg6.N, win6_0.index t = ![t.val, 0] ∧ win6_1.index t = ![t.val, 0]
    ∧ win6_2.index t = ![0, 0] ∧ win6_3.index t = ![t.val, 0] :=
  (by decide +kernel : ∀ t : Fin grid6.N, _)

/-- After the third layer's update call its result array holds the updated atoms. -/
theorem region6 (c : Dev nD) :
    (dat6 V c).arrAt 3 cfg6.N = upd (V c main_v38) (V c main_v29) (V c main_v40) := by
  refine (dat6 V c).arrAt_eq_of_covers 3 _ (by decide +kernel) fun t _ y => ?_
  blk_simp
  rw [after6_3]; frame_out
  rw [upd_same.2]
  refine (upd_block _ _ _ y).trans ?_
  unfold upd
  blk_point [iblk6, index6 t]

end Cert.Net

end
-- ==== Proof.Head.lean ====
module

public import proofs.«01_k».proof.Proof.Spec
public import proofs.«01_k».proof.Proof.Gen.KernelIdeal.Frame
public import Idealize.ShloMosaic.Lib.Pipeline.ValueKit

/-!
  The last `pallas_call`: one block, the head over the whole arrays.
-/

@[expose] public section

set_option maxRecDepth 16384

noncomputable section

open Idealize.ShloMosaic Idealize.ShloMosaic.TcCoe Idealize.SL.Sem
open Idealize.ShloMosaic.Pipeline (Dat)

namespace Cert.Net

open Cert.KernelIdeal Cert.KernelIdeal.Gen

variable (V : (c : Dev nD) → (b : Ref sig .tc) → Buf (Elt Ideal) ((c : Thread nD τ).loc b))

/-- The last call's blocks are its whole arrays. -/
theorem index7 : ∀ t : Fin cfg7.N, win7_0.index t = ![0, 0] ∧ win7_1.index t = ![0, 0] ∧ win7_2.index t = ![0, 0]
    ∧ win7_3.index t = ![0, 0] ∧ win7_4.index t = ![0, 0] ∧ win7_5.index t = ![0, 0] ∧ win7_6.index t = ![0, 0] :=
  (by decide +kernel : ∀ t : Fin grid7.N, _)

/-- After the last call its result array holds the head. -/
theorem region7 (c : Dev nD) :
    (dat7 V c).arrAt 6 cfg7.N
      = head (V c main_v48) (V c main_v45) (V c main_arg8) (V c main_v49) (V c main_arg10) (V c main_v50) := by
  refine (dat7 V c).arrAt_eq_of_after_last 6 t7_0 (by decide +kernel) _ fun y => ?_
  blk_simp
  rw [after7_6]; frame_out
  pointwise [k7_pay1, head]
  blk_point [iblk7, index7 t7_0]

end Cert.Net

end
-- ==== Proof.Plain.lean ====
module

public import proofs.«01_k».proof.Proof.Gen.ReferenceIdeal.Run
public import Idealize.ShloMosaic.Lib.Pointwise

/-!
  What the reference computes, stage by stage, each stage the reference's own operations over whole arrays; and its
  result as the composition of the stages.
-/

@[expose] public section

set_option maxRecDepth 16384

noncomputable section

open Idealize.ShloMosaic Idealize.ShloMosaic.TcCoe Idealize.SL.Sem

namespace Cert.Net.Plain

open Cert.ReferenceIdeal Cert.ReferenceIdeal.Gen

/-- The source atom of every edge. -/
def source (e : Vec Ideal S2x400000 .i32) : Vec Ideal S400000 .i32 :=
  shapeCast S400000 (extractStridedSlice S1x400000 ![0, 0] e slices_S2x400000_S1x400000_0_0) shapeCasts_S1x400000_S400000

/-- The target atom of every edge. -/
def target (e : Vec Ideal S2x400000 .i32) : Vec Ideal S400000 .i32 :=
  shapeCast S400000 (extractStridedSlice S1x400000 ![1, 0] e slices_S2x400000_S1x400000_1_0) shapeCasts_S1x400000_S400000

/-- The row numbers as a column, a negative one counted from the end. -/
def column (s : Vec Ideal S400000 .i32) : Vec Ideal S400000x1 .i32 :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 100000#32))) s)

/-- Whether each row number names a row. -/
def inside (k : Vec Ideal S400000x1 .i32) : Vec Ideal S400000 .i1 :=
  Host.reduce IntOp.andi
    (andi (cmpi .sge k (broadcastInDim S400000x1 ![] bcast_S_S400000x1 (constantI S_ 32 0#32)))
      (cmpi .sle k (broadcastInDim S400000x1 ![0, 1] bcast_S1x1_S400000x1_0_1
        (broadcastInDim S1x1 ![1] bcast_S1_S1x1_1 (constantI S1 32 99999#32)))))
    (constantI S_ 1 1#1) reducesTo_S400000x1_S400000_d1 h_S_

/-- The rows of `h` at the row numbers `s`, with the fill value where a number names no row. -/
def take (h : Vec Ideal S100000x128 .f32) (s : Vec Ideal S400000 .i32) : Vec Ideal S400000x128 .f32 :=
  select (broadcastInDim S400000x128 ![0] bcast_S400000_S400000x128_0 (inside (column s)))
    (Host.gather gather_S100000x128_S400000x1_S400000x128_1_0_n_n_0_1_1128 h (column s))
    (broadcastInDim S400000x128 ![] bcast_S_S400000x128 (constant (F := Ideal) S_ .f32 0x7FC00000#32))

/-- The sum of the rows of `u` that arrive at each atom. -/
def arrive (d : Vec Ideal S400000 .i32) (u : Vec Ideal S400000x128 .f32) : Vec Ideal S100000x128 .f32 :=
  Host.scatterAdd (F := Ideal) scatter_S100000x128_S400000x1_S400000x128_1_0_0_1
    (broadcastInDim S100000x128 ![] bcast_S_S100000x128 (constant (F := Ideal) S_ .f32 0x00000000#32))
    (broadcastInDim S400000x1 ![0] bcast_S400000_S400000x1_0 d) u

/-- The number of atoms of each graph. -/
def count (b : Vec Ideal S100000 .i32) : Vec Ideal S100x1 .f32 :=
  Host.scatterAdd (F := Ideal) scatter_S100x1_S100000x1_S100000x1_1_0_0_1
    (broadcastInDim S100x1 ![] bcast_S_S100x1 (constant (F := Ideal) S_ .f32 0x00000000#32))
    (broadcastInDim S100000x1 ![0] bcast_S100000_S100000x1_0 b)
    (broadcastInDim S100000x1 ![] bcast_S_S100000x1 (constant (F := Ideal) S_ .f32 0x3F800000#32))

/-- The sum of the states of each graph's atoms. -/
def total (b : Vec Ideal S100000 .i32) (h : Vec Ideal S100000x128 .f32) : Vec Ideal S100x128 .f32 :=
  Host.scatterAdd (F := Ideal) scatter_S100x128_S100000x1_S100000x128_1_0_0_1
    (broadcastInDim S100x128 ![] bcast_S_S100x128 (constant (F := Ideal) S_ .f32 0x00000000#32))
    (broadcastInDim S100000x1 ![0] bcast_S100000_S100000x1_0 b) h

/-- The input projection. -/
def project (x : FVec Ideal S100000x142 .f32) (w : FVec Ideal S142x128 .f32) (b : FVec Ideal S128 .f32) :
    FVec Ideal S100000x128 .f32 :=
  maximumf (addf (Host.dotGeneral dot_S100000x142_S142x128_S100000x128_1_0_0_1_n_n none x w)
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The messages: the gathered states and the edge features side by side, times the layer's weights. -/
def message (g : FVec Ideal S400000x128 .f32) (f : FVec Ideal S400000x5 .f32) (w : FVec Ideal S133x128 .f32) :
    FVec Ideal S400000x128 .f32 :=
  maximumf (Host.dotGeneral dot_S400000x133_S133x128_S400000x128_1_0_0_1_n_n none
      (concatenate S400000x133 1 [⟨S400000x128, g⟩, ⟨S400000x5, f⟩] concatenates_S400000x128_S400000x5_S400000x133_d1) w)
    (broadcastInDim S400000x128 ![] bcast_S_S400000x128 (constant (F := Ideal) S_ .f32 0x00000000#32))

/-- The update of the atoms. -/
def update (a h : FVec Ideal S100000x128 .f32) (w : FVec Ideal S128x128 .f32) : FVec Ideal S100000x128 .f32 :=
  maximumf (addf a (Host.dotGeneral dot_S100000x128_S128x128_S100000x128_1_0_0_1_n_n none h w))
    (broadcastInDim S100000x128 ![] bcast_S_S100000x128 (constant (F := Ideal) S_ .f32 0x00000000#32))

/-- One layer. -/
def layer (s d : Vec Ideal S400000 .i32) (f : FVec Ideal S400000x5 .f32) (wm : FVec Ideal S133x128 .f32)
    (ws : FVec Ideal S128x128 .f32) (h : FVec Ideal S100000x128 .f32) : FVec Ideal S100000x128 .f32 :=
  update (arrive d (message (take h s) f wm)) h ws

/-- The head, from each graph's sum and number of atoms. -/
def readout (s : FVec Ideal S100x128 .f32) (n : FVec Ideal S100x1 .f32) (w : FVec Ideal S128x100 .f32)
    (b : FVec Ideal S100 .f32) (wo : FVec Ideal S100x1 .f32) (bo : FVec Ideal S1 .f32) : FVec Ideal S100x1 .f32 :=
  addf (Host.dotGeneral dot_S100x100_S100x1_S100x1_1_0_0_1_n_n none
      (maximumf (addf (Host.dotGeneral dot_S100x128_S128x100_S100x100_1_0_0_1_n_n none
          (Host.divf s (broadcastInDim S100x128 ![0, 1] bcast_S100x1_S100x128_0_1
            (maximumf n (broadcastInDim S100x1 ![] bcast_S_S100x1 (constant (F := Ideal) S_ .f32 0x3F800000#32))))) w)
          (broadcastInDim S100x100 ![0, 1] bcast_S1x100_S100x100_0_1 (broadcastInDim S1x100 ![1] bcast_S100_S1x100_1 b)))
        (broadcastInDim S100x100 ![] bcast_S_S100x100 (constant (F := Ideal) S_ .f32 0x00000000#32))) wo)
    (broadcastInDim S100x1 ![0, 1] bcast_S1x1_S100x1_0_1 (broadcastInDim S1x1 ![1] bcast_S1_S1x1_1 bo))

/-- The first layer's message weights. -/
def wm0 (w : FVec Ideal S3x133x128 .f32) : FVec Ideal S133x128 .f32 :=
  shapeCast S133x128 (extractStridedSlice S1x133x128 ![0, 0, 0] w slices_S3x133x128_S1x133x128_0_0_0) shapeCasts_S1x133x128_S133x128
/-- The second layer's. -/
def wm1 (w : FVec Ideal S3x133x128 .f32) : FVec Ideal S133x128 .f32 :=
  shapeCast S133x128 (extractStridedSlice S1x133x128 ![1, 0, 0] w slices_S3x133x128_S1x133x128_1_0_0) shapeCasts_S1x133x128_S133x128
/-- The third layer's. -/
def wm2 (w : FVec Ideal S3x133x128 .f32) : FVec Ideal S133x128 .f32 :=
  shapeCast S133x128 (extractStridedSlice S1x133x128 ![2, 0, 0] w slices_S3x133x128_S1x133x128_2_0_0) shapeCasts_S1x133x128_S133x128

/-- The first layer's update weights. -/
def ws0 (w : FVec Ideal S3x128x128 .f32) : FVec Ideal S128x128 .f32 :=
  shapeCast S128x128 (extractStridedSlice S1x128x128 ![0, 0, 0] w slices_S3x128x128_S1x128x128_0_0_0) shapeCasts_S1x128x128_S128x128
/-- The second layer's. -/
def ws1 (w : FVec Ideal S3x128x128 .f32) : FVec Ideal S128x128 .f32 :=
  shapeCast S128x128 (extractStridedSlice S1x128x128 ![1, 0, 0] w slices_S3x128x128_S1x128x128_1_0_0) shapeCasts_S1x128x128_S128x128
/-- The third layer's. -/
def ws2 (w : FVec Ideal S3x128x128 .f32) : FVec Ideal S128x128 .f32 :=
  shapeCast S128x128 (extractStridedSlice S1x128x128 ![2, 0, 0] w slices_S3x128x128_S1x128x128_2_0_0) shapeCasts_S1x128x128_S128x128

/-- The atoms' states after the three layers. -/
def atoms (x : FVec Ideal S100000x142 .f32) (e : Vec Ideal S2x400000 .i32) (f : FVec Ideal S400000x5 .f32)
    (wi : FVec Ideal S142x128 .f32) (bi : FVec Ideal S128 .f32) (wm : FVec Ideal S3x133x128 .f32)
    (ws : FVec Ideal S3x128x128 .f32) : FVec Ideal S100000x128 .f32 :=
  layer (source e) (target e) f (wm2 wm) (ws2 ws)
    (layer (source e) (target e) f (wm1 wm) (ws1 ws)
      (layer (source e) (target e) f (wm0 wm) (ws0 ws) (project x wi bi)))

/-- The whole network. -/
def net (x : FVec Ideal S100000x142 .f32) (e : Vec Ideal S2x400000 .i32) (f : FVec Ideal S400000x5 .f32)
    (b : Vec Ideal S100000 .i32) (wi : FVec Ideal S142x128 .f32) (bi : FVec Ideal S128 .f32)
    (wm : FVec Ideal S3x133x128 .f32) (ws : FVec Ideal S3x128x128 .f32) (wr : FVec Ideal S128x100 .f32)
    (br : FVec Ideal S100 .f32) (wo : FVec Ideal S100x1 .f32) (bo : FVec Ideal S1 .f32) : FVec Ideal S100 .f32 :=
  shapeCast S100 (readout (total b (atoms x e f wi bi wm ws)) (count b) wr br wo bo) shapeCasts_S100x1_S100

/-- The reference's result is the network of its arguments. -/
theorem result_eq (m : (ℓ : Loc nD τ sig) → Buf (Elt Ideal) ℓ) (c : Dev nD) :
    Cert.ReferenceIdeal.Value.res_out0 m c
      = net (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11)) := by
  unfold Cert.ReferenceIdeal.Value.res_out0 Cert.ReferenceIdeal.Value.res_main_v71
  rfl

end Cert.Net.Plain

end
-- ==== Proof.Host.lean ====
module

public import proofs.«01_k».proof.Proof.Plain
public import proofs.«01_k».proof.Proof.Gen.KernelIdeal.Launch

/-!
  The host operations between the kernel's calls, from any contents `U` of the buffers: each stretch's results are the
  reference's stages of what it reads.
-/

@[expose] public section

set_option maxRecDepth 16384

noncomputable section

open Idealize.ShloMosaic Idealize.ShloMosaic.TcCoe Idealize.SL.Sem Idealize.ShloMosaic.StableHlo

namespace Cert.Net

open Cert.KernelIdeal Cert.KernelIdeal.Gen

variable (U : Valuation τ sig (Elt Ideal))

/-- The first layer's gather. -/
theorem take_first : after hostOps1_1 U (Proc.devRef .tc main_v10)
    = Plain.take (U (Proc.devRef .tc main_v5)) (U (Proc.devRef .tc main_v1)) := by
  simp only [hostOps1_1, TRef.binary, TRef.nullary, TRef.ternary, TRef.unary, TRef.toBuf, TRef.ofBuf, cast_eq]
  after_results_simp <;> rfl

/-- The second layer's gather. -/
theorem take_second : after hostOps3_1 U (Proc.devRef .tc main_v22)
    = Plain.take (U (Proc.devRef .tc main_v17)) (U (Proc.devRef .tc main_v1)) := by
  simp only [hostOps3_1, TRef.binary, TRef.nullary, TRef.ternary, TRef.unary, TRef.toBuf, TRef.ofBuf, cast_eq]
  after_results_simp <;> rfl

/-- The third layer's gather. -/
theorem take_third : after hostOps5_1 U (Proc.devRef .tc main_v34)
    = Plain.take (U (Proc.devRef .tc main_v29)) (U (Proc.devRef .tc main_v1)) := by
  simp only [hostOps5_1, TRef.binary, TRef.nullary, TRef.ternary, TRef.unary, TRef.toBuf, TRef.ofBuf, cast_eq]
  after_results_simp <;> rfl

/-- Before the first call: the edges' source and target atoms, and the bias as a row. -/
theorem start : after hostOps0 U (Proc.devRef .tc main_v1) = Plain.source (U (Proc.devRef .tc main_arg1))
    ∧ after hostOps0 U (Proc.devRef .tc main_v3) = Plain.target (U (Proc.devRef .tc main_arg1))
    ∧ after hostOps0 U (Proc.devRef .tc main_v4)
      = shapeCast S1x128 (U (Proc.devRef .tc main_arg5) : Vec Ideal S128 .f32) shapeCasts_S128_S1x128 := by
  refine ⟨?_, ?_, ?_⟩ <;> (simp only [hostOps0]; after_results_simp <;> rfl)

/-- The first layer's message weights in their halves. -/
theorem halves_first : after hostOps1 U (Proc.devRef .tc main_v7)
      = shapeCast S128x128 (extractStridedSlice S1x128x128 ![0, 0, 0] (U (Proc.devRef .tc main_arg6) : Vec Ideal S3x133x128 .f32)
        slices_S3x133x128_S1x128x128_0_0_0) shapeCasts_S1x128x128_S128x128
    ∧ after hostOps1 U (Proc.devRef .tc main_v9)
      = shapeCast S5x128 (extractStridedSlice S1x5x128 ![0, 128, 0] (U (Proc.devRef .tc main_arg6) : Vec Ideal S3x133x128 .f32)
        slices_S3x133x128_S1x5x128_0_128_0) shapeCasts_S1x5x128_S5x128 := by
  refine ⟨?_, ?_⟩ <;> (simp only [hostOps1]; after_results_simp <;> rfl)

/-- The second layer's message weights in their halves. -/
theorem halves_second : after hostOps3 U (Proc.devRef .tc main_v19)
      = shapeCast S128x128 (extractStridedSlice S1x128x128 ![1, 0, 0] (U (Proc.devRef .tc main_arg6) : Vec Ideal S3x133x128 .f32)
        slices_S3x133x128_S1x128x128_1_0_0) shapeCasts_S1x128x128_S128x128
    ∧ after hostOps3 U (Proc.devRef .tc main_v21)
      = shapeCast S5x128 (extractStridedSlice S1x5x128 ![1, 128, 0] (U (Proc.devRef .tc main_arg6) : Vec Ideal S3x133x128 .f32)
        slices_S3x133x128_S1x5x128_1_128_0) shapeCasts_S1x5x128_S5x128 := by
  refine ⟨?_, ?_⟩ <;> (simp only [hostOps3]; after_results_simp <;> rfl)

/-- The third layer's message weights in their halves. -/
theorem halves_third : after hostOps5 U (Proc.devRef .tc main_v31)
      = shapeCast S128x128 (extractStridedSlice S1x128x128 ![2, 0, 0] (U (Proc.devRef .tc main_arg6) : Vec Ideal S3x133x128 .f32)
        slices_S3x133x128_S1x128x128_2_0_0) shapeCasts_S1x128x128_S128x128
    ∧ after hostOps5 U (Proc.devRef .tc main_v33)
      = shapeCast S5x128 (extractStridedSlice S1x5x128 ![2, 128, 0] (U (Proc.devRef .tc main_arg6) : Vec Ideal S3x133x128 .f32)
        slices_S3x133x128_S1x5x128_2_128_0) shapeCasts_S1x5x128_S5x128 := by
  refine ⟨?_, ?_⟩ <;> (simp only [hostOps5]; after_results_simp <;> rfl)

/-- The first layer's sums of messages and its update weights. -/
theorem sums_first : after hostOps2 U (Proc.devRef .tc main_v14)
      = Plain.arrive (U (Proc.devRef .tc main_v3)) (U (Proc.devRef .tc main_v11))
    ∧ after hostOps2 U (Proc.devRef .tc main_v16) = Plain.ws0 (U (Proc.devRef .tc main_arg7)) := by
  refine ⟨?_, ?_⟩ <;> (simp only [hostOps2]; after_results_simp <;> rfl)

/-- The second layer's sums of messages and its update weights. -/
theorem sums_second : after hostOps4 U (Proc.devRef .tc main_v26)
      = Plain.arrive (U (Proc.devRef .tc main_v3)) (U (Proc.devRef .tc main_v23))
    ∧ after hostOps4 U (Proc.devRef .tc main_v28) = Plain.ws1 (U (Proc.devRef .tc main_arg7)) := by
  refine ⟨?_, ?_⟩ <;> (simp only [hostOps4]; after_results_simp <;> rfl)

/-- The third layer's sums of messages and its update weights. -/
theorem sums_third : after hostOps6 U (Proc.devRef .tc main_v38)
      = Plain.arrive (U (Proc.devRef .tc main_v3)) (U (Proc.devRef .tc main_v35))
    ∧ after hostOps6 U (Proc.devRef .tc main_v40) = Plain.ws2 (U (Proc.devRef .tc main_arg7)) := by
  refine ⟨?_, ?_⟩ <;> (simp only [hostOps6]; after_results_simp <;> rfl)

/-- Before the last call: the graphs' numbers of atoms and sums, and the two biases as arrays of one row. -/
theorem pool : after hostOps7 U (Proc.devRef .tc main_v45) = Plain.count (U (Proc.devRef .tc main_arg3))
    ∧ after hostOps7 U (Proc.devRef .tc main_v48)
      = Plain.total (U (Proc.devRef .tc main_arg3)) (U (Proc.devRef .tc main_v41))
    ∧ after hostOps7 U (Proc.devRef .tc main_v49)
      = shapeCast S1x100 (U (Proc.devRef .tc main_arg9) : Vec Ideal S100 .f32) shapeCasts_S100_S1x100
    ∧ after hostOps7 U (Proc.devRef .tc main_v50)
      = shapeCast S1x1 (U (Proc.devRef .tc main_arg11) : Vec Ideal S1 .f32) shapeCasts_S1_S1x1 := by
  refine ⟨?_, ?_, ?_, ?_⟩ <;> (simp only [hostOps7]; after_results_simp <;> rfl)

/-- After the last call: its column as a vector. -/
theorem finish : after hostOps8 U (Proc.devRef .tc main_v52)
    = shapeCast S100 (U (Proc.devRef .tc main_v51) : Vec Ideal S100x1 .f32) shapeCasts_S100x1_S100 := by
  simp only [hostOps8]; after_results_simp <;> rfl

end Cert.Net

end
-- ==== Proof.Equations.lean ====
module

public import proofs.«01_k».proof.Proof.Spec
public import proofs.«01_k».proof.Proof.Plain

/-!
  The reference's stages and the kernel's formulas are the same functions.
-/

@[expose] public section

set_option maxRecDepth 16384

noncomputable section

open Idealize.ShloMosaic Idealize.ShloMosaic.TcCoe

namespace Cert.Net

/-- The projection, its bias given as a vector to the one and as a row to the other. -/
theorem project_eq (x : FVec Ideal Cert.KernelIdeal.S100000x142 .f32) (w : FVec Ideal Cert.KernelIdeal.S142x128 .f32)
    (b : FVec Ideal Cert.KernelIdeal.S128 .f32) :
    proj x w (shapeCast Cert.KernelIdeal.S1x128 b Cert.KernelIdeal.Gen.shapeCasts_S128_S1x128) = Plain.project x w b := by
  funext i
  pointwise [proj, Plain.project]

/-- The messages: a sum over the 133 joined features is a sum over 128 of them and one over the last 5. -/
theorem message_eq (l : Nat) (g : FVec Ideal Cert.KernelIdeal.S400000x128 .f32) (f : FVec Ideal Cert.KernelIdeal.S400000x5 .f32)
    (w : FVec Ideal Cert.KernelIdeal.S3x133x128 .f32)
    (hw : Cert.KernelIdeal.S3x133x128.Slices ![l, 0, 0] Cert.ReferenceIdeal.S1x133x128)
    (hh : Cert.KernelIdeal.S3x133x128.Slices ![l, 0, 0] Cert.KernelIdeal.S1x128x128)
    (hb : Cert.KernelIdeal.S3x133x128.Slices ![l, 128, 0] Cert.KernelIdeal.S1x5x128) :
    msg g f
      (shapeCast Cert.KernelIdeal.S128x128 (extractStridedSlice Cert.KernelIdeal.S1x128x128 ![l, 0, 0] w hh)
        Cert.KernelIdeal.Gen.shapeCasts_S1x128x128_S128x128)
      (shapeCast Cert.KernelIdeal.S5x128 (extractStridedSlice Cert.KernelIdeal.S1x5x128 ![l, 128, 0] w hb)
        Cert.KernelIdeal.Gen.shapeCasts_S1x5x128_S5x128)
      = Plain.message g f (shapeCast Cert.ReferenceIdeal.S133x128 (extractStridedSlice Cert.ReferenceIdeal.S1x133x128 ![l, 0, 0] w hw)
        Cert.ReferenceIdeal.Gen.shapeCasts_S1x133x128_S133x128) := by
  funext i
  pointwise [msg, Plain.message]

/-- The update: the two terms are added in either order. -/
theorem update_eq (a h : FVec Ideal Cert.KernelIdeal.S100000x128 .f32) (w : FVec Ideal Cert.KernelIdeal.S128x128 .f32) :
    upd a h w = Plain.update a h w := by
  funext i
  pointwise [upd, Plain.update]
  rw [add_comm]

/-- The head, its biases given as vectors to the one and as arrays of one row to the other. -/
theorem readout_eq (s : FVec Ideal Cert.KernelIdeal.S100x128 .f32) (n : FVec Ideal Cert.KernelIdeal.S100x1 .f32)
    (w : FVec Ideal Cert.KernelIdeal.S128x100 .f32) (b : FVec Ideal Cert.KernelIdeal.S100 .f32)
    (wo : FVec Ideal Cert.KernelIdeal.S100x1 .f32) (bo : FVec Ideal Cert.KernelIdeal.S1 .f32) :
    head s n w (shapeCast Cert.KernelIdeal.S1x100 b Cert.KernelIdeal.Gen.shapeCasts_S100_S1x100) wo
        (shapeCast Cert.KernelIdeal.S1x1 bo Cert.KernelIdeal.Gen.shapeCasts_S1_S1x1)
      = Plain.readout s n w b wo bo := by
  funext i
  pointwise [head, Plain.readout]

end Cert.Net

end
-- ==== Proof.Chain.lean ====
module

public import proofs.«01_k».proof.Proof.Region0
public import proofs.«01_k».proof.Proof.Messages
public import proofs.«01_k».proof.Proof.Updates
public import proofs.«01_k».proof.Proof.Head
public import proofs.«01_k».proof.Proof.Host
public import proofs.«01_k».proof.Proof.Equations

/-!
  The kernel's buffers from the launch to the end: after the first call the projected atoms, after each layer's two
  calls the layer of the atoms before it, after the last call the head; each equal to the reference's stage.
-/

@[expose] public section

set_option maxRecDepth 16384

noncomputable section

open Idealize.ShloMosaic Idealize.ShloMosaic.TcCoe Idealize.SL.Sem Idealize.ShloMosaic.StableHlo

namespace Cert.Net

open Cert.KernelIdeal Cert.KernelIdeal.Gen

variable (m : (ℓ : Loc nD τ sig) → Buf (Elt Ideal) ℓ) (ρ : Dev nD → PrngReg) (c : Dev nD)

/-- The source atoms of the edges, as the launch gives them. -/
abbrev src : Vec Ideal S400000 .i32 := Plain.source (m ((c : Thread nD τ).loc main_arg1))

/-- The target atoms of the edges, as the launch gives them. -/
abbrev dst : Vec Ideal S400000 .i32 := Plain.target (m ((c : Thread nD τ).loc main_arg1))

/-- After the first call: the projected atoms. -/
theorem atoms_zero : W2 m ρ c (Proc.devRef .tc main_v5)
    = Plain.project (m ((c : Thread nD τ).loc main_arg0)) (m ((c : Thread nD τ).loc main_arg4))
      (m ((c : Thread nD τ).loc main_arg5)) := by
  refine (W2_arr m ρ c 3).trans ((region0 (V1 m ρ) c).trans ?_)
  rw [show V1 m ρ c main_arg0 = _ from W1_args m ρ c main_arg0 (by decide),
    show V1 m ρ c main_arg4 = _ from W1_args m ρ c main_arg4 (by decide),
    show V1 m ρ c main_v4 = _ from (start (W0 m ρ c)).2.2]
  exact project_eq _ _ _

/-- The first layer's messages. -/
theorem messages_first : W5 m ρ c (Proc.devRef .tc main_v11)
    = Plain.message (Plain.take (W2 m ρ c (Proc.devRef .tc main_v5)) (src m c)) (m ((c : Thread nD τ).loc main_arg2))
      (Plain.wm0 (m ((c : Thread nD τ).loc main_arg6))) := by
  refine (W5_arr m ρ c 4).trans ((region1 (V4 m ρ) c).trans ?_)
  have hs : W3 m ρ c (Proc.devRef .tc main_v1) = src m c :=
    ((W3_of m ρ c main_v1 (by decide)).trans (W2_of m ρ c main_v1 (by decide))).trans (start (W0 m ρ c)).1
  have hw : W2 m ρ c (Proc.devRef .tc main_arg6) = m ((c : Thread nD τ).loc main_arg6) := W2_args m ρ c main_arg6 (by decide)
  rw [show V4 m ρ c main_v10 = _ from take_first (W3 m ρ c),
    show V4 m ρ c main_arg2 = _ from W4_args m ρ c main_arg2 (by decide),
    show V4 m ρ c main_v7 = _ from (W4_of m ρ c main_v7 (by decide)).trans (halves_first (W2 m ρ c)).1,
    show V4 m ρ c main_v9 = _ from (W4_of m ρ c main_v9 (by decide)).trans (halves_first (W2 m ρ c)).2,
    hs, hw, W3_of m ρ c main_v5 (by decide)]
  exact message_eq 0 _ _ _ _ _ _

/-- The atoms after the first layer. -/
theorem atoms_first : W7 m ρ c (Proc.devRef .tc main_v17)
    = Plain.layer (src m c) (dst m c) (m ((c : Thread nD τ).loc main_arg2)) (Plain.wm0 (m ((c : Thread nD τ).loc main_arg6)))
      (Plain.ws0 (m ((c : Thread nD τ).loc main_arg7))) (W2 m ρ c (Proc.devRef .tc main_v5)) := by
  refine (W7_arr m ρ c 3).trans ((region2 (V6 m ρ) c).trans ?_)
  have hd : W5 m ρ c (Proc.devRef .tc main_v3) = dst m c :=
    ((W5_of m ρ c main_v3 (by decide)).trans ((W4_of m ρ c main_v3 (by decide)).trans ((W3_of m ρ c main_v3 (by decide)).trans (W2_of m ρ c main_v3 (by decide))))).trans (start (W0 m ρ c)).2.1
  have hw : W5 m ρ c (Proc.devRef .tc main_arg7) = m ((c : Thread nD τ).loc main_arg7) := W5_args m ρ c main_arg7 (by decide)
  rw [show V6 m ρ c main_v14 = _ from (sums_first (W5 m ρ c)).1,
    show V6 m ρ c main_v16 = _ from (sums_first (W5 m ρ c)).2,
    show V6 m ρ c main_v5 = _ from ((W6_of m ρ c main_v5 (by decide)).trans ((W5_of m ρ c main_v5 (by decide)).trans ((W4_of m ρ c main_v5 (by decide)).trans (W3_of m ρ c main_v5 (by decide))))),
    hd, hw, messages_first m ρ c]
  exact update_eq _ _ _

/-- The second layer's messages. -/
theorem messages_second : W10 m ρ c (Proc.devRef .tc main_v23)
    = Plain.message (Plain.take (W7 m ρ c (Proc.devRef .tc main_v17)) (src m c)) (m ((c : Thread nD τ).loc main_arg2))
      (Plain.wm1 (m ((c : Thread nD τ).loc main_arg6))) := by
  refine (W10_arr m ρ c 4).trans ((region3 (V9 m ρ) c).trans ?_)
  have hs : W8 m ρ c (Proc.devRef .tc main_v1) = src m c :=
    ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide)))))))).trans (start (W0 m ρ c)).1
  have hw : W7 m ρ c (Proc.devRef .tc main_arg6) = m ((c : Thread nD τ).loc main_arg6) := W7_args m ρ c main_arg6 (by decide)
  rw [show V9 m ρ c main_v22 = _ from take_second (W8 m ρ c),
    show V9 m ρ c main_arg2 = _ from W9_args m ρ c main_arg2 (by decide),
    show V9 m ρ c main_v19 = _ from (W9_of m ρ c main_v19 (by decide)).trans (halves_second (W7 m ρ c)).1,
    show V9 m ρ c main_v21 = _ from (W9_of m ρ c main_v21 (by decide)).trans (halves_second (W7 m ρ c)).2,
    hs, hw, W8_of m ρ c main_v17 (by decide)]
  exact message_eq 1 _ _ _ _ _ _

/-- The atoms after the second layer. -/
theorem atoms_second : W12 m ρ c (Proc.devRef .tc main_v29)
    = Plain.layer (src m c) (dst m c) (m ((c : Thread nD τ).loc main_arg2)) (Plain.wm1 (m ((c : Thread nD τ).loc main_arg6)))
      (Plain.ws1 (m ((c : Thread nD τ).loc main_arg7))) (W7 m ρ c (Proc.devRef .tc main_v17)) := by
  refine (W12_arr m ρ c 3).trans ((region4 (V11 m ρ) c).trans ?_)
  have hd : W10 m ρ c (Proc.devRef .tc main_v3) = dst m c :=
    ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans ((W4_of m ρ c main_v3 (by decide)).trans ((W3_of m ρ c main_v3 (by decide)).trans (W2_of m ρ c main_v3 (by decide)))))))))).trans (start (W0 m ρ c)).2.1
  have hw : W10 m ρ c (Proc.devRef .tc main_arg7) = m ((c : Thread nD τ).loc main_arg7) := W10_args m ρ c main_arg7 (by decide)
  rw [show V11 m ρ c main_v26 = _ from (sums_second (W10 m ρ c)).1,
    show V11 m ρ c main_v28 = _ from (sums_second (W10 m ρ c)).2,
    show V11 m ρ c main_v17 = _ from ((W11_of m ρ c main_v17 (by decide)).trans ((W10_of m ρ c main_v17 (by decide)).trans ((W9_of m ρ c main_v17 (by decide)).trans (W8_of m ρ c main_v17 (by decide))))),
    hd, hw, messages_second m ρ c]
  exact update_eq _ _ _

/-- The third layer's messages. -/
theorem messages_third : W15 m ρ c (Proc.devRef .tc main_v35)
    = Plain.message (Plain.take (W12 m ρ c (Proc.devRef .tc main_v29)) (src m c)) (m ((c : Thread nD τ).loc main_arg2))
      (Plain.wm2 (m ((c : Thread nD τ).loc main_arg6))) := by
  refine (W15_arr m ρ c 4).trans ((region5 (V14 m ρ) c).trans ?_)
  have hs : W13 m ρ c (Proc.devRef .tc main_v1) = src m c :=
    ((W13_of m ρ c main_v1 (by decide)).trans ((W12_of m ρ c main_v1 (by decide)).trans ((W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide))))))))))))).trans (start (W0 m ρ c)).1
  have hw : W12 m ρ c (Proc.devRef .tc main_arg6) = m ((c : Thread nD τ).loc main_arg6) := W12_args m ρ c main_arg6 (by decide)
  rw [show V14 m ρ c main_v34 = _ from take_third (W13 m ρ c),
    show V14 m ρ c main_arg2 = _ from W14_args m ρ c main_arg2 (by decide),
    show V14 m ρ c main_v31 = _ from (W14_of m ρ c main_v31 (by decide)).trans (halves_third (W12 m ρ c)).1,
    show V14 m ρ c main_v33 = _ from (W14_of m ρ c main_v33 (by decide)).trans (halves_third (W12 m ρ c)).2,
    hs, hw, W13_of m ρ c main_v29 (by decide)]
  exact message_eq 2 _ _ _ _ _ _

/-- The atoms after the third layer. -/
theorem atoms_third : W17 m ρ c (Proc.devRef .tc main_v41)
    = Plain.layer (src m c) (dst m c) (m ((c : Thread nD τ).loc main_arg2)) (Plain.wm2 (m ((c : Thread nD τ).loc main_arg6)))
      (Plain.ws2 (m ((c : Thread nD τ).loc main_arg7))) (W12 m ρ c (Proc.devRef .tc main_v29)) := by
  refine (W17_arr m ρ c 3).trans ((region6 (V16 m ρ) c).trans ?_)
  have hd : W15 m ρ c (Proc.devRef .tc main_v3) = dst m c :=
    ((W15_of m ρ c main_v3 (by decide)).trans ((W14_of m ρ c main_v3 (by decide)).trans ((W13_of m ρ c main_v3 (by decide)).trans ((W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans ((W4_of m ρ c main_v3 (by decide)).trans ((W3_of m ρ c main_v3 (by decide)).trans (W2_of m ρ c main_v3 (by decide))))))))))))))).trans (start (W0 m ρ c)).2.1
  have hw : W15 m ρ c (Proc.devRef .tc main_arg7) = m ((c : Thread nD τ).loc main_arg7) := W15_args m ρ c main_arg7 (by decide)
  rw [show V16 m ρ c main_v38 = _ from (sums_third (W15 m ρ c)).1,
    show V16 m ρ c main_v40 = _ from (sums_third (W15 m ρ c)).2,
    show V16 m ρ c main_v29 = _ from ((W16_of m ρ c main_v29 (by decide)).trans ((W15_of m ρ c main_v29 (by decide)).trans ((W14_of m ρ c main_v29 (by decide)).trans (W13_of m ρ c main_v29 (by decide))))),
    hd, hw, messages_third m ρ c]
  exact update_eq _ _ _

/-- The kernel's result is the reference's network of the launch's arguments. -/
theorem kernel_result : W20 m ρ c (Proc.devRef .tc main_v52)
    = Plain.net (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11)) := by
  have hb : W17 m ρ c (Proc.devRef .tc main_arg3) = m ((c : Thread nD τ).loc main_arg3) := W17_args m ρ c main_arg3 (by decide)
  have hr : W17 m ρ c (Proc.devRef .tc main_arg9) = m ((c : Thread nD τ).loc main_arg9) := W17_args m ρ c main_arg9 (by decide)
  have ho : W17 m ρ c (Proc.devRef .tc main_arg11) = m ((c : Thread nD τ).loc main_arg11) := W17_args m ρ c main_arg11 (by decide)
  have hp := pool (W17 m ρ c)
  rw [hb, hr, ho, atoms_third m ρ c, atoms_second m ρ c, atoms_first m ρ c, atoms_zero m ρ c] at hp
  refine (finish (W19 m ρ c)).trans (congrArg (fun x : FVec Ideal S100x1 .f32 => shapeCast S100 x shapeCasts_S100x1_S100) ?_)
  refine (W19_arr m ρ c 6).trans ((region7 (V18 m ρ) c).trans ?_)
  rw [show V18 m ρ c main_v45 = _ from hp.1, show V18 m ρ c main_v48 = _ from hp.2.1,
    show V18 m ρ c main_v49 = _ from hp.2.2.1, show V18 m ρ c main_v50 = _ from hp.2.2.2,
    show V18 m ρ c main_arg8 = _ from W18_args m ρ c main_arg8 (by decide),
    show V18 m ρ c main_arg10 = _ from W18_args m ρ c main_arg10 (by decide)]
  exact readout_eq _ _ _ _ _ _

end Cert.Net

end
-- ==== Proof.KernelRun.lean ====
module

public import proofs.«01_k».proof.Proof.Chain

/-!
  The kernel's run: it ends, faulting nowhere, with every array at the contents the chain of calls and host operations
  gives it; so with the network's value in its result and its arguments unchanged.
-/

@[expose] public section

set_option maxRecDepth 16384

noncomputable section

namespace Cert.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with every array at its contents after the last stretch. -/
theorem run_all : θ_run defs (onTc (τ := τ) (main (F := Ideal))) ⟨m, fun _ => 0, ρ⟩ (fun r =>
    ∀ c : Dev nD, ∀ b ∈ Pipeline.ucRefs τ sig, r.2.mem (((c : Thread nD τ)).1, b) = W20 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h _ => h)

end Cert.Net

end
-- ==== Proof.lean ====
/-
  The five claims. The two frames of the kernel are the run of its eight calls, the frame of the reference is its run,
  no operation was replaced, and the results are equal because both are the network of `Proof/Plain.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference's run ends with its arguments unchanged and every semaphore counter at zero. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The kernel and the reference end with equal results. -/
theorem results_equal : Cert.algebraic_KernelIdeal_ReferenceIdeal := by
  intro m ρ m' ρ' _ hagree
  refine ⟨fun c => Cert.KernelIdeal.Gen.W20 m ρ c (Proc.devRef .tc Cert.KernelIdeal.main_v52), ?_, ?_⟩
  · refine (θ_run Cert.KernelIdeal.defs _ _).mono (fun r h c => ?_) (Cert.Net.run_all m ρ)
    exact ⟨h c _ (Cert.KernelIdeal.Gen.mem_uc Cert.KernelIdeal.main_v52 (by decide)),
      (h c _ (Cert.KernelIdeal.Gen.mem_uc Cert.KernelIdeal.main_arg0 (by decide))).trans (Cert.KernelIdeal.Gen.W20_main_arg0 m ρ c),
      (h c _ (Cert.KernelIdeal.Gen.mem_uc Cert.KernelIdeal.main_arg1 (by decide))).trans (Cert.KernelIdeal.Gen.W20_main_arg1 m ρ c),
      (h c _ (Cert.KernelIdeal.Gen.mem_uc Cert.KernelIdeal.main_arg2 (by decide))).trans (Cert.KernelIdeal.Gen.W20_main_arg2 m ρ c),
      (h c _ (Cert.KernelIdeal.Gen.mem_uc Cert.KernelIdeal.main_arg3 (by decide))).trans (Cert.KernelIdeal.Gen.W20_main_arg3 m ρ c),
      (h c _ (Cert.KernelIdeal.Gen.mem_uc Cert.KernelIdeal.main_arg4 (by decide))).trans (Cert.KernelIdeal.Gen.W20_main_arg4 m ρ c),
      (h c _ (Cert.KernelIdeal.Gen.mem_uc Cert.KernelIdeal.main_arg5 (by decide))).trans (Cert.KernelIdeal.Gen.W20_main_arg5 m ρ c),
      (h c _ (Cert.KernelIdeal.Gen.mem_uc Cert.KernelIdeal.main_arg6 (by decide))).trans (Cert.KernelIdeal.Gen.W20_main_arg6 m ρ c),
      (h c _ (Cert.KernelIdeal.Gen.mem_uc Cert.KernelIdeal.main_arg7 (by decide))).trans (Cert.KernelIdeal.Gen.W20_main_arg7 m ρ c),
      (h c _ (Cert.KernelIdeal.Gen.mem_uc Cert.KernelIdeal.main_arg8 (by decide))).trans (Cert.KernelIdeal.Gen.W20_main_arg8 m ρ c),
      (h c _ (Cert.KernelIdeal.Gen.mem_uc Cert.KernelIdeal.main_arg9 (by decide))).trans (Cert.KernelIdeal.Gen.W20_main_arg9 m ρ c),
      (h c _ (Cert.KernelIdeal.Gen.mem_uc Cert.KernelIdeal.main_arg10 (by decide))).trans (Cert.KernelIdeal.Gen.W20_main_arg10 m ρ c),
      (h c _ (Cert.KernelIdeal.Gen.mem_uc Cert.KernelIdeal.main_arg11 (by decide))).trans (Cert.KernelIdeal.Gen.W20_main_arg11 m ρ c)⟩
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    refine (Cert.Net.Plain.result_eq m' c).trans (Eq.trans ?_ (Cert.Net.kernel_result m ρ c).symm)
    rw [h0, h1, h2, h3, h4, h5, h6, h7, h8, h9, h10, h11]

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, results_equal⟩

end Cert.Proof

end
